-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
-- ==== Pre_finite_keys.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S4x2048x1024 .f32) (main_arg2 : FVec F S1024x1024 .f32) (main_arg3 : FVec F S1024x1024 .f32) (main_arg4 : FVec F S1024x1024 .f32) (main_arg5 : FVec F S1024x1024 .f32) (main_arg6 : FVec F S1024 .f32) : IVec S_ 1 :=
  let main_v0 : FVec F S4x2048x1024 .f32 := Host.absf main_arg1
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x2048x1024 : Shape := ⟨3, ![1, 2048, 1024]⟩
abbrev S1024x2048 : Shape := ⟨2, ![1024, 2048]⟩
abbrev S1280x2048 : Shape := ⟨2, ![1280, 2048]⟩
abbrev S1024x512 : Shape := ⟨2, ![1024, 512]⟩
abbrev S2048x1024 : Shape := ⟨2, ![2048, 1024]⟩
abbrev S64x2048 : Shape := ⟨2, ![64, 2048]⟩
abbrev S16x2048 : Shape := ⟨2, ![16, 2048]⟩
abbrev S512x1024 : Shape := ⟨2, ![512, 1024]⟩
abbrev S64x512 : Shape := ⟨2, ![64, 512]⟩
abbrev S64x1024 : Shape := ⟨2, ![64, 1024]⟩
abbrev S80x1024 : Shape := ⟨2, ![80, 1024]⟩
abbrev S80x512 : Shape := ⟨2, ![80, 512]⟩
abbrev S1x512 : Shape := ⟨2, ![1, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1024x2048, .bf16⟩
  | .local _ .vmem, ⟨12, _⟩ => ⟨S1280x2048, .bf16⟩
  | .local _ .vmem, ⟨13, _⟩ => ⟨S1024x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4x2048x1024, .f32⟩
  | .hbm, ⟨9, _⟩ => ⟨S1024x1024, .f32⟩
  | .hbm, ⟨10, _⟩ => ⟨S4x2048x1024, .f32⟩
  | .hbm, ⟨11, _⟩ => ⟨S1024x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x16x64, .f32⟩
  | .hbm, ⟨16, _⟩ => ⟨S4x16x2048x64, .f32⟩
  | .hbm, ⟨17, _⟩ => ⟨S4x2048x16x64, .f32⟩
  | .hbm, ⟨18, _⟩ => ⟨S4x16x2048x64, .f32⟩
  | .hbm, ⟨19, _⟩ => ⟨S4x16x2048x2048, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S_, .f32⟩
  | .hbm, ⟨26, _⟩ => ⟨S4x16x2048, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S1024x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Head.lean ====
/- The kernel's body as a composition of a few functions, for any float values: what one head computes (`headOf`), the
   sixteen pieces of the attention output, and the finished block (`body`) from the loaded blocks and the two carried
   scratches. -/
module

public import proofs.«01_k».proof.Proof.Gen.KernelIdeal.Frame
public import Idealize.ShloMosaic.Lib.Tactic
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-! ## One head -/

/-- The weights of one half of the keys: two to the power of the queries against the keys. -/
def weights (q : FVec F S64x512 .bf16) (K : Vec F S64x1024 .bf16) : FVec F S512x1024 .bf16 :=
  truncf .bf16 (exp2 (matmul dot_S64x512_S64x1024_S512x1024_0_0_1_1_n_n none q K (constant S512x1024 .f32 0x00000000#32))) bitsLt_bf16_f32

/-- One half of the keys: the values, and the row of ones under them, against the weights. -/
def half (q : FVec F S64x512 .bf16) (K : Vec F S64x1024 .bf16) (V : Vec F S80x1024 .bf16) : FVec F S80x512 .f32 :=
  matmul dot_S80x1024_S512x1024_S80x512_1_1_0_0_n_n none V (weights q K) (constant S80x512 .f32 0x00000000#32)

/-- The first sixty-four rows over the sixty-fifth. -/
def normalized (u : FVec F S80x512 .f32) : FVec F S64x512 .bf16 :=
  shapeCast S64x512 (truncf .bf16 (divf (extractStridedSlice S64x512 ![0, 0] u slices_S80x512_o0_0_S64x512)
    (broadcastTo S64x512 (extractStridedSlice S1x512 ![64, 0] u slices_S80x512_o64_0_S1x512) broadcasts_S1x512_S64x512)) bitsLt_bf16_f32)
    shapeCasts_S64x512_S64x512

/-- One head's attention output, from its queries and the two halves of its keys and values. -/
def headOf (q : FVec F S64x512 .bf16) (K0 : Vec F S64x1024 .bf16) (V0 : Vec F S80x1024 .bf16) (K1 : Vec F S64x1024 .bf16) (V1 : Vec F S80x1024 .bf16) :
    FVec F S64x512 .bf16 :=
  normalized (addf (half q K0 V0) (half q K1 V1))

/-! ## The sixteen heads -/

/-- Head `h`'s rows of the queries lie in them. -/
theorem slices_head (h : Fin 16) : S1024x512.Slices ![64 * h.val, 0] S64x512 := by revert h; decide
/-- Head `h`'s rows of the keys lie in them, in either half. -/
theorem inb_keys (h : Fin 16) (c : Fin 2) : ∀ a, (![64 * h.val, 1024 * c.val] : Fin 2 → ℕ) a + S64x1024.size a ≤ S1024x2048.size a := by
  revert h c; decide
/-- Head `h`'s rows of the values lie in them, in either half. -/
theorem inb_vals (h : Fin 16) (c : Fin 2) : ∀ a, (![80 * h.val, 1024 * c.val] : Fin 2 → ℕ) a + S80x1024.size a ≤ S1280x2048.size a := by
  revert h c; decide
/-- Head `h`'s rows of the output lie in it. -/
theorem inb_out (h : Fin 16) : ∀ a, (![64 * h.val, 0] : Fin 2 → ℕ) a + S64x512.size a ≤ S1024x512.size a := by
  revert h; decide

/-- Head `h`'s queries. -/
def headQ (q : FVec F S1024x512 .bf16) (h : Fin 16) : FVec F S64x512 .bf16 := extractStridedSlice S64x512 ![64 * h.val, 0] q (slices_head h)
/-- Head `h`'s keys, half `c`. -/
def headK (kts : Vec F S1024x2048 .bf16) (h : Fin 16) (c : Fin 2) : Vec F S64x1024 .bf16 :=
  View.ld kts (Rect.unit ![64 * h.val, 1024 * c.val] S64x1024.size (inb_keys h c))
/-- Head `h`'s values and ones, half `c`. -/
def headV (vts : Vec F S1280x2048 .bf16) (h : Fin 16) (c : Fin 2) : Vec F S80x1024 .bf16 :=
  View.ld vts (Rect.unit ![80 * h.val, 1024 * c.val] S80x1024.size (inb_vals h c))

/-- Head `h`'s store into the attention output. -/
def piece (q : FVec F S1024x512 .bf16) (kts : Vec F S1024x2048 .bf16) (vts : Vec F S1280x2048 .bf16) (h : Fin 16) : View.Piece (Elt F) S1024x512 .bf16 :=
  ⟨Rect.unit ![64 * h.val, 0] S64x512.size (inb_out h), headOf (headQ q h) (headK kts h 0) (headV vts h 0) (headK kts h 1) (headV vts h 1)⟩

/-- The heads, the last stored first. -/
def order : List (Fin 16) := [15, 14, 13, 12, 11, 10, 9, 8, 7, 6, 5, 4, 3, 2, 1, 0]

/-- The attention output of a block of queries: the sixteen stores read back. -/
def attended (q : FVec F S1024x512 .bf16) (kts : Vec F S1024x2048 .bf16) (vts : Vec F S1280x2048 .bf16) : Vec F S1024x512 .bf16 :=
  View.canon (order.map (piece q kts vts))

/-- The block a grid point finishes, from its loaded blocks and the carried keys and values. -/
def body (x0 : Vec F S1x512x1024 .f32) (x2 : Vec F S1024x1024 .f32) (x5 : Vec F S1024x1024 .bf16) (x6 : Vec F S1x1024 .f32)
    (kts : Vec F S1024x2048 .bf16) (vts : Vec F S1280x2048 .bf16) : Vec F S1x512x1024 .f32 :=
  k0_pay1 (k0_pay72 (k0_pay41 x0) (attended (k0_pay42 x0 x2) kts vts) x5) (k0_pay73 x6)

theorem zero2 : (![0, 0] : Fin 2 → ℕ) = fun _ => 0 := by decide
theorem zero3 : (![0, 0, 0] : Fin 3 → ℕ) = fun _ => 0 := by decide

/-- A load of a rectangle after any stores reads what they leave there. -/
theorem load_after {sp : Space} {s : Shape} {e : EltTy} (v : View sig .tc sp s e) (L : List (View.Piece (Elt F) s e)) (r : Rect s) :
    v.readCov L r.toLoadRect = View.ld (View.canon L) r :=
  View.readCov_eq_canon' v L r.toLoadRect

/-- A point that keeps the carried scratches leaves `body` of them. -/
theorem out_B (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1024x2048 .bf16) (harg10 : arg10.IsWhole) (arg11 : Memref sig .tc .vmem S1280x2048 .bf16) (harg11 : arg11.IsWhole) (arg12 : Memref sig .tc .vmem S1024x512 .bf16) (harg12 : arg12.IsWhole) (hc0 : ¬cond0_0 i)
    (x0 : Vec F S1x512x1024 .f32) (x1 : Vec F S1x2048x1024 .f32) (x2 : Vec F S1024x1024 .f32) (x3 : Vec F S1024x1024 .bf16) (x4 : Vec F S1024x1024 .bf16) (x5 : Vec F S1024x1024 .bf16) (x6 : Vec F S1x1024 .f32) (xs0 : Vec F S1024x2048 .bf16) (xs1 : Vec F S1280x2048 .bf16) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1
      = body x0 x2 x5 x6 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1)]
  unfold kernelRun0_B
  dsimp only
  sl_unfold_words
  rw [View.canon_unit_zero zero3]
  simp only [load_after, View.readAt_eq_ld, harg2.read_unread, harg4.read_unread, harg7.read_unread, harg8.read_unread, harg10.read_unread,
    harg11.read_unread, View.ld_unit_zero (S := S1x512x1024) zero3, View.ld_unit_zero (S := S1024x1024) zero2, View.ld_unit_zero (S := S1024x512) zero2,
    View.ld_unit_zero (S := S1x1024) zero2]
  unfold body attended
  refine congrArg (fun ots => k0_pay1 (k0_pay72 _ (View.canon ots) _) _) ?_
  sl_kernel_rfl

end Cert.KernelIdeal.Body

end
-- ==== Proof.Opening.lean ====
/- The point that opens a batch entry: what it leaves in the two scratches the later points read (`keysOf`, `valsOf`),
   and the block it finishes from them. For any float values. -/
module

public import proofs.«01_k».proof.Proof.Head

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-- Sixty-four rows of the projected values lie in them. -/
theorem slices_vals (h : Fin 16) : S1024x2048.Slices ![64 * h.val, 0] S64x2048 := by revert h; decide
/-- Head `h`'s rows of values lie in the scratch. -/
theorem inb_rows (h : Fin 16) : ∀ a, (![80 * h.val, 0] : Fin 2 → ℕ) a + S64x2048.size a ≤ S1280x2048.size a := by revert h; decide
/-- Head `h`'s rows of ones lie in the scratch. -/
theorem inb_ones (h : Fin 16) : ∀ a, (![80 * h.val + 64, 0] : Fin 2 → ℕ) a + S16x2048.size a ≤ S1280x2048.size a := by revert h; decide

/-- Head `h`'s store of values into the scratch. -/
def valPiece (vp : FVec F S1024x2048 .bf16) (h : Fin 16) : View.Piece (Elt F) S1280x2048 .bf16 :=
  ⟨Rect.unit ![80 * h.val, 0] S64x2048.size (inb_rows h),
    shapeCast S64x2048 (extractStridedSlice S64x2048 ![64 * h.val, 0] vp (slices_vals h)) shapeCasts_S64x2048_S64x2048⟩
/-- Head `h`'s store of ones under them. -/
def onePiece (h : Fin 16) : View.Piece (Elt F) S1280x2048 .bf16 :=
  ⟨Rect.unit ![80 * h.val + 64, 0] S16x2048.size (inb_ones h),
    shapeCast S16x2048 (broadcast S16x2048 (Scalar.ofBits .bf16 0x3F80#16)) shapeCasts_S16x2048_S16x2048⟩

/-- The thirty-two stores into the scratch of values, the last first. -/
def valStores (vp : FVec F S1024x2048 .bf16) : List (View.Piece (Elt F) S1280x2048 .bf16) :=
  order.flatMap fun h => [onePiece h, valPiece vp h]

/-- What they leave. -/
def valsOf (x1 : Vec F S1x2048x1024 .f32) (x4 : Vec F S1024x1024 .bf16) : Vec F S1280x2048 .bf16 :=
  View.canon (valStores (k0_pay4 x1 x4))

/-- The opening point leaves the projected keys in the first scratch. -/
theorem keys_A (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1024x2048 .bf16) (harg10 : arg10.IsWhole) (arg11 : Memref sig .tc .vmem S1280x2048 .bf16) (harg11 : arg11.IsWhole) (arg12 : Memref sig .tc .vmem S1024x512 .bf16) (harg12 : arg12.IsWhole) (hc0 : cond0_0 i)
    (x0 : Vec F S1x512x1024 .f32) (x1 : Vec F S1x2048x1024 .f32) (x2 : Vec F S1024x1024 .f32) (x3 : Vec F S1024x1024 .bf16) (x4 : Vec F S1024x1024 .bf16) (x5 : Vec F S1024x1024 .bf16) (x6 : Vec F S1x1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6
      = k0_pay3 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zero2]
  simp only [View.readAt_eq_ld, harg3.read_unread, harg5.read_unread, View.ld_unit_zero (S := S1x2048x1024) zero3,
    View.ld_unit_zero (S := S1024x1024) zero2]
  rfl

/-- The opening point leaves the projected values and the rows of ones in the second. -/
theorem vals_A (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1024x2048 .bf16) (harg10 : arg10.IsWhole) (arg11 : Memref sig .tc .vmem S1280x2048 .bf16) (harg11 : arg11.IsWhole) (arg12 : Memref sig .tc .vmem S1024x512 .bf16) (harg12 : arg12.IsWhole) (hc0 : cond0_0 i)
    (x0 : Vec F S1x512x1024 .f32) (x1 : Vec F S1x2048x1024 .f32) (x2 : Vec F S1024x1024 .f32) (x3 : Vec F S1024x1024 .bf16) (x4 : Vec F S1024x1024 .bf16) (x5 : Vec F S1024x1024 .bf16) (x6 : Vec F S1x1024 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6
      = valsOf x1 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg6.read_unread, View.ld_unit_zero (S := S1x2048x1024) zero3,
    View.ld_unit_zero (S := S1024x1024) zero2]
  unfold valsOf
  refine congrArg View.canon ?_
  sl_kernel_rfl

/-- The block the opening point finishes. -/
theorem out_A (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1024x2048 .bf16) (harg10 : arg10.IsWhole) (arg11 : Memref sig .tc .vmem S1280x2048 .bf16) (harg11 : arg11.IsWhole) (arg12 : Memref sig .tc .vmem S1024x512 .bf16) (harg12 : arg12.IsWhole) (hc0 : cond0_0 i)
    (x0 : Vec F S1x512x1024 .f32) (x1 : Vec F S1x2048x1024 .f32) (x2 : Vec F S1024x1024 .f32) (x3 : Vec F S1024x1024 .bf16) (x4 : Vec F S1024x1024 .bf16) (x5 : Vec F S1024x1024 .bf16) (x6 : Vec F S1x1024 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6
      = body x0 x2 x5 x6 (k0_pay3 x1 x3) (valsOf x1 x4) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zero3]
  simp only [load_after, View.readAt_eq_ld, harg2.read_unread, harg3.read_unread, harg4.read_unread, harg5.read_unread, harg6.read_unread,
    harg7.read_unread, harg8.read_unread, View.canon_unit_zero (S := S1024x2048) zero2,
    View.ld_unit_zero (S := S1x2048x1024) zero3,
    View.ld_unit_zero (S := S1x512x1024) zero3, View.ld_unit_zero (S := S1024x1024) zero2, View.ld_unit_zero (S := S1024x512) zero2,
    View.ld_unit_zero (S := S1x1024) zero2]
  unfold body attended
  refine congrArg (fun ots => k0_pay1 (k0_pay72 _ (View.canon ots) _) _) ?_
  unfold valsOf
  sl_kernel_rfl

end Cert.KernelIdeal.Body

end
-- ==== Proof.Blocks.lean ====
/- The blocks the windows bring to a grid point, read at an index off the arguments: the point's rows of the decoder,
   its batch entry of the encoder, and the five whole arrays of weights. -/
module

public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem

/-- The batch entry of a point. -/
def batch (t : Fin cfg0.N) : Fin 4 := ⟨t.val / 4, by have := lt_of_lt_of_eq t.isLt (show cfg0.N = 16 from N_0); omega⟩
/-- Row `i` of a point's block of queries. -/
def query (t : Fin cfg0.N) (i : Fin 512) : Fin 2048 := ⟨512 * (t.val % 4) + i.val, by omega⟩

/-- The printed index maps, decided over the grid. -/
theorem idx (t : Fin cfg0.N) : win0_0.index t = ![t.val / 4, t.val % 4, 0] ∧ win0_1.index t = ![t.val / 4, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![t.val / 4, t.val % 4, 0] ∧ win0_1.index t = ![t.val / 4, 0, 0] ∧ win0_2.index t = ![0, 0]
    ∧ win0_3.index t = ![0, 0] ∧ win0_4.index t = ![0, 0] ∧ win0_5.index t = ![0, 0] ∧ win0_6.index t = ![0, 0]) t

variable (m : (ℓ : Loc nD τ sig) → Buf (Elt Ideal) ℓ) (c : Dev nD) (t : Fin cfg0.N)

/-- A point's block of the decoder. -/
theorem dec_apply (i : Fin 512) (k : Fin 1024) :
    (iblk m c 0 t : Vec Ideal S1x512x1024 .f32) (ix3 0 i k) = m ((c : Thread nD τ).loc main_arg0) (ix3 (batch t) (query t i) k) := by
  rw [← V_main_arg0 m c]
  blk_ext [iblk, V, idx t, batch, query]

/-- A point's block of the encoder. -/
theorem enc_apply (s : Fin 2048) (k : Fin 1024) :
    (iblk m c 1 t : Vec Ideal S1x2048x1024 .f32) (ix3 0 s k) = m ((c : Thread nD τ).loc main_arg1) (ix3 (batch t) s k) := by
  rw [← V_main_arg1 m c]
  blk_ext [iblk, V, idx t, batch]

/-- The query projection. -/
theorem wq_apply (r k : Fin 1024) :
    (iblk m c 2 t : Vec Ideal S1024x1024 .f32) (ix2 r k) = m ((c : Thread nD τ).loc main_arg2) (ix2 r k) := by
  rw [← V_main_arg2 m c]
  blk_ext [iblk, V, idx t]

/-- The key projection. -/
theorem wk_apply (r k : Fin 1024) :
    (iblk m c 3 t : Vec Ideal S1024x1024 .bf16) (ix2 r k) = m ((c : Thread nD τ).loc main_arg3) (ix2 r k) := by
  blk_point [iblk, V, idx t]

/-- The value projection. -/
theorem wv_apply (r k : Fin 1024) :
    (iblk m c 4 t : Vec Ideal S1024x1024 .bf16) (ix2 r k) = m ((c : Thread nD τ).loc main_arg4) (ix2 r k) := by
  blk_point [iblk, V, idx t]

/-- The output projection. -/
theorem wo_apply (r k : Fin 1024) :
    (iblk m c 5 t : Vec Ideal S1024x1024 .bf16) (ix2 r k) = m ((c : Thread nD τ).loc main_arg5) (ix2 r k) := by
  blk_point [iblk, V, idx t]

/-- The gains. -/
theorem gain_apply (j : Fin 1024) :
    (iblk m c 6 t : Vec Ideal S1x1024 .f32) (ix2 0 j) = m ((c : Thread nD τ).loc main_arg6) (ix1 j) := by
  blk_point [iblk, V, idx t]

end Cert.KernelIdeal.Blocks

end
-- ==== Proof.Carry.lean ====
/- What every grid point leaves (`carried`): its finished block, and the keys and values of its batch entry in the two
   scratches, which the opening point of the entry fills and the later points keep. -/
module

public import proofs.«01_k».proof.Proof.Opening
public import proofs.«01_k».proof.Proof.Blocks

@[expose] public section

set_option maxRecDepth 16384

noncomputable section

namespace Cert.KernelIdeal.Carry

open Cert.KernelIdeal Cert.KernelIdeal.Gen Cert.KernelIdeal.Body Cert.KernelIdeal.Blocks Idealize.ShloMosaic Idealize.ShloMosaic.TcCoe Idealize.SL.Sem

variable (m : (ℓ : Loc nD τ sig) → Buf (Elt Ideal) ℓ) (c : Dev nD)

/-- The keys of a point's batch entry, projected. -/
def keysAt (t : Fin cfg0.N) : Vec Ideal S1024x2048 .bf16 := k0_pay3 (iblk m c 1 t) (iblk m c 3 t)
/-- The values of a point's batch entry, projected, with their ones. -/
def valsAt (t : Fin cfg0.N) : Vec Ideal S1280x2048 .bf16 := valsOf (iblk m c 1 t) (iblk m c 4 t)
/-- The block a point finishes. -/
def blockAt (t : Fin cfg0.N) : Vec Ideal S1x512x1024 .f32 :=
  body (iblk m c 0 t) (iblk m c 2 t) (iblk m c 5 t) (iblk m c 6 t) (keysAt m c t) (valsAt m c t)

/-- Points of one batch entry see one block of the encoder. -/
theorem enc_same (t t' : Fin cfg0.N) (h : t.val / 4 = t'.val / 4) :
    (iblk m c 1 t : Vec Ideal S1x2048x1024 .f32) = iblk m c 1 t' := by
  funext y
  have hb : batch t = batch t' := Fin.ext h
  have hy : y = ix3 0 (y 1 : Fin 2048) (y 2 : Fin 1024) := (eq_ix3 y).trans (congrArg (fun a => ix3 a (y 1 : Fin 2048) (y 2 : Fin 1024)) (Subsingleton.elim (α := Fin 1) _ _))
  rw [hy]
  exact (enc_apply m c t _ _).trans ((congrArg (fun b => m ((c : Thread nD τ).loc main_arg1) (ix3 b (y 1 : Fin 2048) (y 2 : Fin 1024))) hb).trans
    (enc_apply m c t' _ _).symm)

/-- All points see the whole of the key projection. -/
theorem wk_same (t t' : Fin cfg0.N) : (iblk m c 3 t : Vec Ideal S1024x1024 .bf16) = iblk m c 3 t' := by
  funext y
  have hy : y = ix2 (y 0 : Fin 1024) (y 1 : Fin 1024) := eq_ix2 y
  rw [hy]
  exact (wk_apply m c t _ _).trans (wk_apply m c t' _ _).symm

/-- All points see the whole of the value projection. -/
theorem wv_same (t t' : Fin cfg0.N) : (iblk m c 4 t : Vec Ideal S1024x1024 .bf16) = iblk m c 4 t' := by
  funext y
  have hy : y = ix2 (y 0 : Fin 1024) (y 1 : Fin 1024) := eq_ix2 y
  rw [hy]
  exact (wv_apply m c t _ _).trans (wv_apply m c t' _ _).symm

/-- Points of one batch entry have one set of keys. -/
theorem keys_same (t t' : Fin cfg0.N) (h : t.val / 4 = t'.val / 4) : keysAt m c t = keysAt m c t' := by
  unfold keysAt
  rw [enc_same m c t t' h, wk_same m c t t']

/-- Points of one batch entry have one set of values. -/
theorem vals_same (t t' : Fin cfg0.N) (h : t.val / 4 = t'.val / 4) : valsAt m c t = valsAt m c t' := by
  unfold valsAt
  rw [enc_same m c t t' h, wv_same m c t t']

/-- An opening point leaves its block, its keys and its values. -/
theorem opens (t : Fin cfg0.N) (h0 : t.val % 4 = 0) : outsAt0 m c t.val t.isLt = (blockAt m c t, keysAt m c t, valsAt m c t) := by
  rw [outsAt0_A m c t h0, out_A, keys_A, vals_A]
  rfl

/-- A later point leaves its block, and the keys and values as it found them. -/
theorem keeps (t : Fin cfg0.N) (h0 : ¬t.val % 4 = 0) {u : Vec Ideal S1x512x1024 .f32}
    (hp : outsAt0 m c (t.val - 1) (Nat.lt_of_le_of_lt (Nat.sub_le _ _) t.isLt) = (u, keysAt m c t, valsAt m c t)) :
    outsAt0 m c t.val t.isLt = (blockAt m c t, keysAt m c t, valsAt m c t) := by
  rw [outsAt0_B m c t h0, out_B, hp]
  rfl

/-- **What every point leaves.** -/
theorem carried (n : ℕ) (hn : n < cfg0.N) : outsAt0 m c n hn = (blockAt m c ⟨n, hn⟩, keysAt m c ⟨n, hn⟩, valsAt m c ⟨n, hn⟩) := by
  induction n with
  | zero => exact opens m c ⟨0, hn⟩ rfl
  | succ n ih =>
    by_cases h0 : (n + 1) % 4 = 0
    · exact opens m c ⟨n + 1, hn⟩ h0
    · have hd : n / 4 = (n + 1) / 4 := by omega
      have hp := ih (Nat.lt_of_succ_lt hn)
      rw [keys_same m c ⟨n, Nat.lt_of_succ_lt hn⟩ ⟨n + 1, hn⟩ hd, vals_same m c ⟨n, Nat.lt_of_succ_lt hn⟩ ⟨n + 1, hn⟩ hd] at hp
      exact keeps m c ⟨n + 1, hn⟩ h0 hp

end Cert.KernelIdeal.Carry

end
-- ==== Proof.Attn.lean ====
/- The mathematics the two programs share, over the extended reals and free of any program: what one batch entry of
   the kernel computes (`kerOut`), what one batch entry of the reference computes (`refOut`), and that they are equal
   where the keys and the two score projections are finite (`kerOut_eq_refOut`). -/
module

public import Idealize.ShloMosaic.PureOps.Ideal
public import Idealize.ShloMosaic.Lib.Pointwise.Sums

@[expose] public section

noncomputable section

namespace Cert.Attn

open Idealize.ShloMosaic
open scoped BigOperators

/-! ## Sums of extended reals -/

/-- A sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a nonnegative real distributes over a finite sum of extended reals, infinities included. -/
theorem mul_sum_of_nonneg {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

/-- A sum of nonnegative extended reals one of which is infinite is infinite. -/
theorem sum_eq_top {ι : Type} [Fintype ι] (f : ι → EReal) (h0 : ∀ i, 0 ≤ f i) (i : ι) (hi : f i = ⊤) : ∑ j, f j = ⊤ :=
  top_le_iff.mp (hi ▸ Finset.single_le_sum (f := f) (fun j _ => h0 j) (Finset.mem_univ i))

/-- A square of an extended real is nonnegative. -/
theorem sq_nonneg (x : EReal) : 0 ≤ x * x := by
  rcases le_total 0 x with h | h
  · exact mul_nonneg h h
  · have := EReal.mul_nonneg_iff (a := x) (b := x)
    exact this.mpr (Or.inr ⟨h, h⟩)

/-- The fold of `max` from `⊥` over finitely many reals, at least one, is a real. -/
theorem fold_max_real {ι : Type} [Fintype ι] [Nonempty ι] (t : ι → ℝ) :
    ∃ m : ℝ, max (⊥ : EReal) (Finset.fold max ⊥ (fun s => (t s : EReal)) Finset.univ) = (m : EReal) := by
  obtain ⟨i, -, hi⟩ := Finset.exists_mem_eq_sup Finset.univ Finset.univ_nonempty (fun s => (t s : EReal))
  refine ⟨t i, ?_⟩
  rw [max_eq_right bot_le]
  exact hi

/-! ## The softmax, with and without its maximum taken off -/

/-- Base two at a score scaled by `1 / log 2` is the exponential. -/
theorem rpow_two (t : ℝ) : Real.rpow 2 (1 / 8 * (Real.log 2)⁻¹ * t) = Real.exp (t * (1 / 8)) := by
  have h2 : Real.log 2 ≠ 0 := (Real.log_pos (by norm_num)).ne'
  have e : Real.rpow 2 (1 / 8 * (Real.log 2)⁻¹ * t) = Real.exp (Real.log 2 * (1 / 8 * (Real.log 2)⁻¹ * t)) :=
    Real.rpow_def_of_pos (by norm_num) _
  rw [e]
  congr 1
  field_simp

/-- ONE ENTRY of the attention output: the sum of the values weighted by `2 ^ (c · t)`, divided by the sum of the
    weights, is the sum of the values weighted by the softmax of `t / 8` taken with any real `m` subtracted. The values
    may be infinite. -/
theorem softmax_eq {ι : Type} [Fintype ι] [Nonempty ι] (t : ι → ℝ) (v : ι → EReal) (m : ℝ) :
    Ideal.div (∑ s, v s * Ideal.exp2 ((1 / 8 * (Real.log 2)⁻¹ * t s : ℝ) : EReal))
        (∑ s, Ideal.exp2 ((1 / 8 * (Real.log 2)⁻¹ * t s : ℝ) : EReal))
      = ∑ s, Ideal.div (Ideal.exp ((t s * (1 / 8) : ℝ) - (m : EReal)))
          (∑ s', Ideal.exp ((t s' * (1 / 8) : ℝ) - (m : EReal))) * v s := by
  have e2 : ∀ s, Ideal.exp2 ((1 / 8 * (Real.log 2)⁻¹ * t s : ℝ) : EReal) = (Real.exp (t s * (1 / 8)) : EReal) := fun s => by
    rw [Ideal.exp2_coe, rpow_two]
  have e1 : ∀ s, Ideal.exp ((t s * (1 / 8) : ℝ) - (m : EReal)) = (Real.exp (t s * (1 / 8) - m) : EReal) := fun s => by
    rw [← EReal.coe_sub, Ideal.exp_coe]
  simp only [e1, e2, ← coe_sum]
  have hL : 0 < ∑ s, Real.exp (t s * (1 / 8)) := Finset.sum_pos (fun _ _ => Real.exp_pos _) Finset.univ_nonempty
  have hM : 0 < ∑ s, Real.exp (t s * (1 / 8) - m) := Finset.sum_pos (fun _ _ => Real.exp_pos _) Finset.univ_nonempty
  simp only [Ideal.div_coe hL.ne', Ideal.div_coe hM.ne']
  rw [mul_comm, mul_sum_of_nonneg _ (by positivity)]
  refine Finset.sum_congr rfl fun s _ => ?_
  rw [mul_comm (v s), ← mul_assoc, ← EReal.coe_mul, ← EReal.coe_mul]
  congr 2
  have hS : ∑ s, Real.exp (t s * (1 / 8) - m) = (∑ s, Real.exp (t s * (1 / 8))) * Real.exp (-m) := by
    rw [Finset.sum_mul]
    exact Finset.sum_congr rfl fun s _ => by rw [← Real.exp_add, sub_eq_add_neg]
  rw [hS, sub_eq_add_neg, Real.exp_add]
  have := Real.exp_pos (-m)
  field_simp

/-! ## The root mean square scaling, on a row with an infinite entry -/

/-- A row with an infinite entry is scaled to zero. -/
theorem scale_of_top {ι : Type} [Fintype ι] (y : ι → EReal) (i : ι) (hi : y i = ⊤ ∨ y i = ⊥) (eps : ℝ) (j : ι) (g : EReal) :
    y j * Ideal.rsqrt (Ideal.div (∑ k, y k * y k) ((1024 : ℝ) : EReal) + (eps : EReal)) * g = 0 := by
  have hs : ∑ k, y k * y k = ⊤ := sum_eq_top _ (fun k => sq_nonneg _) i (by rcases hi with h | h <;> rw [h] <;> rfl)
  rw [hs, Ideal.div_coe (by norm_num), EReal.top_mul_coe_of_pos (by norm_num), EReal.top_add_coe, Ideal.rsqrt_top, mul_zero, zero_mul]

/-! ## One batch entry of each program -/

/-- Row `e` of the head that row `r` of the projections lies in. -/
def row (r : Fin 1024) (e : Fin 64) : Fin 1024 := ⟨r.val / 64 * 64 + e.val, by have := r.isLt; have := e.isLt; omega⟩
/-- Position `s` of the first half of the keys. -/
def lo (s : Fin 1024) : Fin 2048 := ⟨s.val, by omega⟩
/-- Position `s` of the second half of the keys. -/
def hi (s : Fin 1024) : Fin 2048 := ⟨1024 + s.val, by omega⟩

/-- The factor the kernel multiplies the query projection by: an eighth, over the natural logarithm of two. -/
def scale : ℝ := 1 / 8 * (Real.log 2)⁻¹

/-- A matrix of extended reals. -/
abbrev Mat (m n : ℕ) : Type := Fin m → Fin n → EReal

variable (D E : Mat 2048 1024) (Wq Wk Wv Wo : Mat 1024 1024) (g : Fin 1024 → EReal)

/-- The kernel's query projection, transposed: row `r`, query `i`. -/
def kerQ (i : Fin 2048) (r : Fin 1024) : EReal := ∑ k, Wq r k * (scale : EReal) * D i k
/-- A projection of the keys, transposed: row `r`, key `s`. -/
def kerKV (W : Mat 1024 1024) (s : Fin 2048) (r : Fin 1024) : EReal := ∑ k, W r k * E s k
/-- The kernel's weight of key `s` for query `i` in the head of row `r`. -/
def kerP (i : Fin 2048) (r : Fin 1024) (s : Fin 2048) : EReal :=
  Ideal.exp2 (∑ e, kerQ D Wq i (row r e) * kerKV E Wk s (row r e))
/-- The kernel's attention output, row `r`, query `i`: two halves of the keys added, the sum of the weights divided out. -/
def kerO (i : Fin 2048) (r : Fin 1024) : EReal :=
  Ideal.div ((∑ s, kerKV E Wv (lo s) r * kerP D E Wq Wk i r (lo s)) + ∑ s, kerKV E Wv (hi s) r * kerP D E Wq Wk i r (hi s))
    ((∑ s, kerP D E Wq Wk i r (lo s)) + ∑ s, kerP D E Wq Wk i r (hi s))
/-- The kernel's row before the scaling: the output projection plus the row it adds to. -/
def kerY (i : Fin 2048) (j : Fin 1024) : EReal := (∑ r, kerO D E Wq Wk Wv i r * Wo j r) + D i j

/-- The reference's scaled score of key `s` for query `i` in the head of row `r`. -/
def refT (i : Fin 2048) (r : Fin 1024) (s : Fin 2048) : EReal :=
  (∑ e, (∑ k, D i k * Wq (row r e) k) * ∑ k, E s k * Wk (row r e) k) * ((1 / 8 : ℝ) : EReal)
/-- The reference's largest score of query `i` in the head of row `r`. -/
def refM (i : Fin 2048) (r : Fin 1024) : EReal := max ⊥ (Finset.fold max ⊥ (fun s => refT D E Wq Wk i r s) Finset.univ)
/-- The reference's exponential of a score with the largest taken off. -/
def refE (i : Fin 2048) (r : Fin 1024) (s : Fin 2048) : EReal := Ideal.exp (refT D E Wq Wk i r s - refM D E Wq Wk i r)
/-- The reference's attention output, query `i`, column `r`. -/
def refO (i : Fin 2048) (r : Fin 1024) : EReal :=
  ∑ s, Ideal.div (refE D E Wq Wk i r s) (∑ s', refE D E Wq Wk i r s') * ∑ k, E s k * Wv r k
/-- The reference's row before the scaling. -/
def refY (i : Fin 2048) (j : Fin 1024) : EReal := D i j + ∑ r, refO D E Wq Wk Wv i r * Wo j r

/-- A row scaled by its root mean square and by `g`. -/
def scaled (eps : ℝ) (y : Fin 1024 → EReal) (j : Fin 1024) : EReal :=
  y j * Ideal.rsqrt (Ideal.div (∑ k, y k * y k) ((1024 : ℝ) : EReal) + (eps : EReal)) * g j

/-- What the kernel computes at query `i`, column `j` of a batch entry. -/
def kerOut (eps : ℝ) (i : Fin 2048) (j : Fin 1024) : EReal := scaled g eps (kerY D E Wq Wk Wv Wo i) j
/-- What the reference computes there. -/
def refOut (eps : ℝ) (i : Fin 2048) (j : Fin 1024) : EReal := scaled g eps (refY D E Wq Wk Wv Wo i) j

/-! ## They are equal -/

/-- A sum over the keys is the sum over its two halves. -/
theorem sum_halves (f : Fin 2048 → EReal) : (∑ s, f (lo s)) + ∑ s, f (hi s) = ∑ s, f s :=
  (Fin.sum_univ_two_halves 1024 1024 rfl f).symm

/-- A finite extended real is a real. -/
theorem real_of_finite {x : EReal} (h : x ≠ ⊤ ∧ x ≠ ⊥) : ∃ r : ℝ, x = r := ⟨x.toReal, (EReal.coe_toReal h.1 h.2).symm⟩

/-- On a query whose row is finite, the two attention outputs are equal. -/
theorem kerO_eq_refO (i : Fin 2048) (hD : ∀ k, D i k ≠ ⊤ ∧ D i k ≠ ⊥) (hE : ∀ s k, E s k ≠ ⊤ ∧ E s k ≠ ⊥)
    (hq : ∀ r k, Wq r k ≠ ⊤ ∧ Wq r k ≠ ⊥) (hk : ∀ r k, Wk r k ≠ ⊤ ∧ Wk r k ≠ ⊥) (r : Fin 1024) :
    kerO D E Wq Wk Wv i r = refO D E Wq Wk Wv i r := by
  choose d hd using fun k => real_of_finite (hD k)
  choose x hx using fun s k => real_of_finite (hE s k)
  choose q hq using fun r k => real_of_finite (hq r k)
  choose w hw using fun r k => real_of_finite (hk r k)
  let t : Fin 2048 → ℝ := fun s => ∑ e, (∑ k, d k * q (row r e) k) * ∑ k, x s k * w (row r e) k
  have hT : ∀ s, refT D E Wq Wk i r s = ((t s * (1 / 8) : ℝ) : EReal) := fun s => by
    simp only [refT, hd, hx, hq, hw, ← EReal.coe_mul, ← coe_sum, t]
  have hS : ∀ s, kerP D E Wq Wk i r s = Ideal.exp2 ((1 / 8 * (Real.log 2)⁻¹ * t s : ℝ) : EReal) := fun s => by
    simp only [kerP, kerQ, kerKV, hd, hx, hq, hw, ← EReal.coe_mul, ← coe_sum, t, scale]
    congr 2
    rw [Finset.mul_sum]
    refine Finset.sum_congr rfl fun e _ => ?_
    have h1 : ∑ k, q (row r e) k * (1 / 8 * (Real.log 2)⁻¹) * d k = 1 / 8 * (Real.log 2)⁻¹ * ∑ k, d k * q (row r e) k := by
      rw [Finset.mul_sum]
      exact Finset.sum_congr rfl fun k _ => by ring
    have h2 : ∑ k, w (row r e) k * x s k = ∑ k, x s k * w (row r e) k := Finset.sum_congr rfl fun k _ => mul_comm _ _
    rw [h1, h2, mul_assoc]
  obtain ⟨m, hm⟩ := fold_max_real fun s => t s * (1 / 8)
  have hM : refM D E Wq Wk i r = (m : EReal) := by simp only [refM, hT]; exact hm
  unfold kerO refO
  rw [sum_halves fun s => kerKV E Wv s r * kerP D E Wq Wk i r s, sum_halves fun s => kerP D E Wq Wk i r s]
  simp only [refE, hT, hM, hS]
  rw [softmax_eq t (fun s => kerKV E Wv s r) m]
  refine Finset.sum_congr rfl fun s _ => congrArg _ (Finset.sum_congr rfl fun k _ => mul_comm _ _)

/-- Adding an infinite value leaves an infinite value. -/
theorem add_infinite (x y : EReal) (hy : y = ⊤ ∨ y = ⊥) : x + y = ⊤ ∨ x + y = ⊥ := by
  rcases hy with rfl | rfl
  · induction x with
    | bot => right; rfl
    | coe x => left; exact EReal.coe_add_top x
    | top => left; rfl
  · right; exact EReal.add_bot x

/-- **The kernel's batch entry is the reference's**, wherever the keys and the two score projections are finite. -/
theorem kerOut_eq_refOut (hE : ∀ s k, E s k ≠ ⊤ ∧ E s k ≠ ⊥)
    (hq : ∀ r k, Wq r k ≠ ⊤ ∧ Wq r k ≠ ⊥) (hk : ∀ r k, Wk r k ≠ ⊤ ∧ Wk r k ≠ ⊥) (eps : ℝ) (i : Fin 2048) (j : Fin 1024) :
    kerOut D E Wq Wk Wv Wo g eps i j = refOut D E Wq Wk Wv Wo g eps i j := by
  by_cases hD : ∀ k, D i k ≠ ⊤ ∧ D i k ≠ ⊥
  · have hY : kerY D E Wq Wk Wv Wo i = refY D E Wq Wk Wv Wo i := by
      funext j
      unfold kerY refY
      rw [add_comm]
      exact congrArg _ (Finset.sum_congr rfl fun r _ => by rw [kerO_eq_refO D E Wq Wk Wv i hD hE hq hk r])
    unfold kerOut refOut
    rw [hY]
  · obtain ⟨k, hk⟩ := not_forall.mp hD
    have hk' : D i k = ⊤ ∨ D i k = ⊥ := by
      by_contra h
      rw [not_or] at h
      exact hk h
    unfold kerOut refOut scaled
    rw [scale_of_top _ k (add_infinite _ _ hk'), scale_of_top _ k (by unfold refY; rw [add_comm]; exact add_infinite _ _ hk')]

end Cert.Attn

end
-- ==== Proof.BodyRead.lean ====
/- The body's functions read at an index over the extended reals: one lemma a function, each from the function below. -/
module

public import proofs.«01_k».proof.Proof.Opening
public import proofs.«01_k».proof.Proof.Attn
public import Idealize.ShloMosaic.Lib.Pointwise
public import Idealize.ShloMosaic.Lib.Tactic.CleanTypes

@[expose] public section

set_option maxRecDepth 16384

noncomputable section

namespace Cert.KernelIdeal.Body

open Cert.KernelIdeal Cert.KernelIdeal.Gen Idealize.ShloMosaic Idealize.ShloMosaic.TcCoe Idealize.SL.Sem
open scoped BigOperators

/-! ## One head -/

theorem weights_apply (q : FVec Ideal S64x512 .bf16) (K : Vec Ideal S64x1024 .bf16) (i : Fin 512) (s : Fin 1024) :
    weights q K (ix2 i s) = Ideal.exp2 (∑ e : Fin 64, q (ix2 e i) * K (ix2 e s)) := by
  pointwise [weights]
  rfl

theorem half_apply (q : FVec Ideal S64x512 .bf16) (K : Vec Ideal S64x1024 .bf16) (V : Vec Ideal S80x1024 .bf16) (e : Fin 80) (i : Fin 512) :
    half q K V (ix2 e i) = ∑ s : Fin 1024, V (ix2 e s) * weights q K (ix2 i s) := by
  unfold half
  generalize weights q K = w
  pointwise

theorem normalized_apply (u : FVec Ideal S80x512 .f32) (e : Fin 64) (i : Fin 512) :
    normalized u (ix2 e i) = Ideal.div (u (ix2 (⟨e.val, by omega⟩ : Fin 80) i)) (u (ix2 (64 : Fin 80) i)) := by
  pointwise [normalized]

theorem add_apply (u v : FVec Ideal S80x512 .f32) (j : S80x512.Idx) : addf u v j = (u j : EReal) + v j := rfl

theorem headOf_apply (q : FVec Ideal S64x512 .bf16) (K0 : Vec Ideal S64x1024 .bf16) (V0 : Vec Ideal S80x1024 .bf16) (K1 : Vec Ideal S64x1024 .bf16)
    (V1 : Vec Ideal S80x1024 .bf16) (e : Fin 64) (i : Fin 512) :
    headOf q K0 V0 K1 V1 (ix2 e i)
      = Ideal.div ((∑ s : Fin 1024, V0 (ix2 (⟨e.val, by omega⟩ : Fin 80) s) * Ideal.exp2 (∑ e : Fin 64, q (ix2 e i) * K0 (ix2 e s)))
          + ∑ s : Fin 1024, V1 (ix2 (⟨e.val, by omega⟩ : Fin 80) s) * Ideal.exp2 (∑ e : Fin 64, q (ix2 e i) * K1 (ix2 e s)))
        ((∑ s : Fin 1024, V0 (ix2 (64 : Fin 80) s) * Ideal.exp2 (∑ e : Fin 64, q (ix2 e i) * K0 (ix2 e s)))
          + ∑ s : Fin 1024, V1 (ix2 (64 : Fin 80) s) * Ideal.exp2 (∑ e : Fin 64, q (ix2 e i) * K1 (ix2 e s))) := by
  unfold headOf
  rw [normalized_apply]
  simp only [add_apply, half_apply, weights_apply]

/-! ## The projections -/

theorem queries_apply (x0 : Vec Ideal S1x512x1024 .f32) (x2 : Vec Ideal S1024x1024 .f32) (r : Fin 1024) (i : Fin 512) :
    k0_pay42 x0 x2 (ix2 r i)
      = ∑ k : Fin 1024, x2 (ix2 r k) * ((Attn.scale : ℝ) : EReal) * x0 (ix3 0 i k) := by
  have hc : (Named.named κ "scale_log2e" 0x3E38AA3B#32 : Ideal .f32) = ((Attn.scale : ℝ) : EReal) := rfl
  unfold k0_pay42
  rw [hc]
  pointwise [k0_pay41]

theorem keys_apply (x1 : Vec Ideal S1x2048x1024 .f32) (x3 : Vec Ideal S1024x1024 .bf16) (r : Fin 1024) (s : Fin 2048) :
    k0_pay3 x1 x3 (ix2 r s) = ∑ k : Fin 1024, x3 (ix2 r k) * x1 (ix3 0 s k) := by
  pointwise [k0_pay3, k0_pay2]

theorem values_apply (x1 : Vec Ideal S1x2048x1024 .f32) (x4 : Vec Ideal S1024x1024 .bf16) (r : Fin 1024) (s : Fin 2048) :
    k0_pay4 x1 x4 (ix2 r s) = ∑ k : Fin 1024, x4 (ix2 r k) * x1 (ix3 0 s k) := by
  pointwise [k0_pay4, k0_pay2]

/-! ## The output projection and the scaling -/

/-- The row before the scaling. -/
def kerRow (v4 : FVec Ideal S512x1024 .f32) (ots : Vec Ideal S1024x512 .bf16) (wo : Vec Ideal S1024x1024 .bf16) : FVec Ideal S512x1024 .f32 :=
  addf (matmul (φ₁ := .bf16) (φ₂ := .bf16) dot_S1024x512_S1024x1024_S512x1024_0_1_1_0_n_n none ots (shapeCast S1024x1024 wo shapeCasts_S1024x1024_S1024x1024)
    (constant S512x1024 .f32 0x00000000#32)) v4

theorem kerRow_apply (v4 : FVec Ideal S512x1024 .f32) (ots : Vec Ideal S1024x512 .bf16) (wo : Vec Ideal S1024x1024 .bf16) (i : Fin 512) (j : Fin 1024) :
    kerRow v4 ots wo (ix2 i j) = (∑ r : Fin 1024, ots (ix2 r i) * wo (ix2 j r)) + v4 (ix2 i j) := by
  pointwise [kerRow]

/-- The scaling of the rows by their root mean square. -/
def kerScale (y : FVec Ideal S512x1024 .f32) : FVec Ideal S512x1024 .f32 :=
  mulf y (broadcastTo S512x1024 (rsqrt (addf (divf (shapeCast S512x1 (multiReduction .add [1] S512 (mulf y y) 0x00000000#32 reduces_S512x1024_S512 (.inl rfl) rfl)
    shapeCasts_S512_S512x1) (broadcast S512x1 (Scalar.ofBits .f32 0x44800000#32))) (broadcast S512x1 (Scalar.ofBits .f32 0x358637BD#32))))
    broadcasts_S512x1_S512x1024)

theorem pay72_eq (v4 : FVec Ideal S512x1024 .f32) (ots : Vec Ideal S1024x512 .bf16) (wo : Vec Ideal S1024x1024 .bf16) :
    k0_pay72 v4 ots wo = kerScale (kerRow v4 ots wo) := rfl

theorem kerScale_apply (y : FVec Ideal S512x1024 .f32) (i : Fin 512) (j : Fin 1024) :
    kerScale y (ix2 i j) = y (ix2 i j) * Ideal.rsqrt (Ideal.div (∑ k : Fin 1024, y (ix2 i k) * y (ix2 i k)) (Ideal.ofBits .f32 0x44800000#32)
      + Ideal.ofBits .f32 0x358637BD#32) := by
  pointwise [kerScale]

theorem gains_apply (x6 : Vec Ideal S1x1024 .f32) (i : Fin 512) (j : Fin 1024) : k0_pay73 x6 (ix2 i j) = x6 (ix2 0 j) := by
  pointwise [k0_pay73]

theorem finish_apply (u v : FVec Ideal S512x1024 .f32) (i : Fin 512) (j : Fin 1024) : k0_pay1 u v (ix3 0 i j) = u (ix2 i j) * v (ix2 i j) := by
  pointwise [k0_pay1]

theorem input_apply (x0 : Vec Ideal S1x512x1024 .f32) (i : Fin 512) (j : Fin 1024) : k0_pay41 x0 (ix2 i j) = x0 (ix3 0 i j) := by
  pointwise [k0_pay41]

end Cert.KernelIdeal.Body

end
-- ==== Proof.SlabRead.lean ====
/- Where the sixteen heads lie: the loads and the stores of the body read at an index over the extended reals, and the
   two scratches that are filled piece by piece read as one array. -/
module

public import proofs.«01_k».proof.Proof.BodyRead

@[expose] public section

set_option maxRecDepth 16384

noncomputable section

namespace Cert.KernelIdeal.Body

open Cert.KernelIdeal Cert.KernelIdeal.Gen Idealize.ShloMosaic Idealize.ShloMosaic.TcCoe Idealize.SL.Sem
open scoped BigOperators

/-- Row `e` of head `h`, of the queries, the keys and the output. -/
def at64 (h : Fin 16) (e : Fin 64) : Fin 1024 := ⟨64 * h.val + e.val, by omega⟩
/-- Row `e` of head `h`, of the values with their ones. -/
def at80 (h : Fin 16) (e : Fin 80) : Fin 1280 := ⟨80 * h.val + e.val, by omega⟩
/-- Key `s` of half `c`. -/
def col (c : Fin 2) (s : Fin 1024) : Fin 2048 := ⟨1024 * c.val + s.val, by omega⟩

theorem headQ_apply (q : FVec Ideal S1024x512 .bf16) (h : Fin 16) (e : Fin 64) (i : Fin 512) : headQ q h (ix2 e i) = q (ix2 (at64 h e) i) := by
  pointwise [headQ, at64]

theorem headK_apply (kts : Vec Ideal S1024x2048 .bf16) (h : Fin 16) (c : Fin 2) (e : Fin 64) (s : Fin 1024) :
    headK kts h c (ix2 e s) = kts (ix2 (at64 h e) (col c s)) := by
  pointwise [headK, at64, col]

theorem headV_apply (vts : Vec Ideal S1280x2048 .bf16) (h : Fin 16) (c : Fin 2) (e : Fin 80) (s : Fin 1024) :
    headV vts h c (ix2 e s) = vts (ix2 (at80 h e) (col c s)) := by
  pointwise [headV, at80, col]

/-- Every head is among the stores. -/
theorem mem_order (h : Fin 16) : h ∈ order := by revert h; decide

/-- What a rectangle's store lands on is in it. -/
theorem emb_mem {S : Shape} (r : Rect S) (x : r.shape.Idx) : r.emb x ∈ r.set := by
  rw [← Rect.map_emb_univ]; exact Finset.mem_map_of_mem _ (Finset.mem_univ x)

/-- What holds at every pair of coordinates holds at every index. -/
theorem of_pairs {m n : ℕ} (P : (⟨2, ![m, n]⟩ : Shape).Idx → Prop) (h : ∀ (a : Fin m) (b : Fin n), P (ix2 a b)) (x : (⟨2, ![m, n]⟩ : Shape).Idx) : P x :=
  (eq_ix2 x) ▸ h (x 0) (x 1)

/-! ## The attention output -/

/-- Its entry, from the queries and the carried keys and values. -/
def outAt (q : FVec Ideal S1024x512 .bf16) (kts : Vec Ideal S1024x2048 .bf16) (vts : Vec Ideal S1280x2048 .bf16) (h : Fin 16) (e : Fin 64) (i : Fin 512) : EReal :=
  headOf (headQ q h) (headK kts h 0) (headV vts h 0) (headK kts h 1) (headV vts h 1) (ix2 e i)

/-- The head of a row. -/
def headIx (r : Fin 1024) : Fin 16 := ⟨r.val / 64, by omega⟩
/-- The row of a head. -/
def rowIx (r : Fin 1024) : Fin 64 := ⟨r.val % 64, by omega⟩

theorem headIx_at (h : Fin 16) (e : Fin 64) : headIx (at64 h e) = h := by
  apply Fin.ext; show (64 * h.val + e.val) / 64 = h.val; omega
theorem rowIx_at (h : Fin 16) (e : Fin 64) : rowIx (at64 h e) = e := by
  apply Fin.ext; show (64 * h.val + e.val) % 64 = e.val; omega
theorem at_headIx (r : Fin 1024) : at64 (headIx r) (rowIx r) = r := by
  apply Fin.ext; show 64 * (r.val / 64) + r.val % 64 = r.val; omega

/-- A head's store lands on its rows. -/
theorem emb_out (h : Fin 16) (e : Fin 64) (i : Fin 512) : (Rect.unit (s := S1024x512) ![64 * h.val, 0] S64x512.size (inb_out h)).emb (ix2 e i) = ix2 (at64 h e) i := by
  funext a
  apply Fin.ext
  refine (Rect.emb_apply _ _ _).trans ?_
  match a with
  | ⟨0, _⟩ => show 64 * h.val + 1 * e.val = 64 * h.val + e.val; omega
  | ⟨1, _⟩ => show 0 + 1 * i.val = i.val; omega

/-- The attention output, read at a row: its head's entry. -/
theorem attended_apply (q : FVec Ideal S1024x512 .bf16) (kts : Vec Ideal S1024x2048 .bf16) (vts : Vec Ideal S1280x2048 .bf16) (r : Fin 1024) (i : Fin 512) :
    attended q kts vts (ix2 r i) = outAt q kts vts (headIx r) (rowIx r) i := by
  refine View.canon_apply_of_pieces (Val := Elt Ideal) (S := S1024x512) (e := .bf16) (fun y => outAt q kts vts (headIx (y 0)) (rowIx (y 0)) (y 1)) _ ?_ (ix2 r i) ?_
  · intro p hp x
    obtain ⟨h, -, rfl⟩ := List.mem_map.mp hp
    refine of_pairs (fun x : S64x512.Idx => (piece q kts vts h).2 x = outAt q kts vts (headIx ((piece q kts vts h).1.emb x 0))
      (rowIx ((piece q kts vts h).1.emb x 0)) ((piece q kts vts h).1.emb x 1)) (fun e i => ?_) x
    have he : (piece q kts vts h).1.emb (ix2 e i) = ix2 (at64 h e) i := emb_out h e i
    refine Eq.trans ?_ (congrArg (fun y : S1024x512.Idx => outAt q kts vts (headIx (y 0)) (rowIx (y 0)) (y 1)) he.symm)
    show outAt q kts vts h e i = outAt q kts vts (headIx (at64 h e)) (rowIx (at64 h e)) i
    rw [headIx_at, rowIx_at]
  · refine ⟨piece q kts vts (headIx r), List.mem_map.mpr ⟨_, mem_order _, rfl⟩, ?_⟩
    have he : (piece q kts vts (headIx r)).1.emb (ix2 (rowIx r) i) = ix2 (at64 (headIx r) (rowIx r)) i := emb_out _ _ i
    rw [at_headIx] at he
    rw [← he]
    exact emb_mem _ _

/-! ## The values with their ones -/

/-- Row `r` of the scratch: sixty-four rows of values, then sixteen of ones, a head. -/
def valAt (vp : FVec Ideal S1024x2048 .bf16) (r : Fin 1280) (s : Fin 2048) : EReal :=
  if h : r.val % 80 < 64 then vp (ix2 (⟨64 * (r.val / 80) + r.val % 80, by omega⟩ : Fin 1024) s) else 1

/-- A head's store of values lands on its first rows. -/
theorem emb_rows (h : Fin 16) (e : Fin 64) (s : Fin 2048) :
    (Rect.unit (s := S1280x2048) ![80 * h.val, 0] S64x2048.size (inb_rows h)).emb (ix2 e s) = ix2 (at80 h ⟨e.val, by omega⟩) s := by
  funext a
  apply Fin.ext
  refine (Rect.emb_apply _ _ _).trans ?_
  match a with
  | ⟨0, _⟩ => show 80 * h.val + 1 * e.val = 80 * h.val + e.val; omega
  | ⟨1, _⟩ => show 0 + 1 * s.val = s.val; omega

/-- A head's store of ones lands on its last rows. -/
theorem emb_ones (h : Fin 16) (e : Fin 16) (s : Fin 2048) :
    (Rect.unit (s := S1280x2048) ![80 * h.val + 64, 0] S16x2048.size (inb_ones h)).emb (ix2 e s) = ix2 (at80 h ⟨64 + e.val, by omega⟩) s := by
  funext a
  apply Fin.ext
  refine (Rect.emb_apply _ _ _).trans ?_
  match a with
  | ⟨0, _⟩ => show 80 * h.val + 64 + 1 * e.val = 80 * h.val + (64 + e.val); omega
  | ⟨1, _⟩ => show 0 + 1 * s.val = s.val; omega

theorem valPiece_apply (vp : FVec Ideal S1024x2048 .bf16) (h : Fin 16) (e : Fin 64) (s : Fin 2048) : (valPiece vp h).2 (ix2 e s) = vp (ix2 (at64 h e) s) := by
  pointwise [valPiece, at64]

theorem onePiece_apply (h : Fin 16) (e : Fin 16) (s : Fin 2048) : (onePiece (F := Ideal) h).2 (ix2 e s) = (1 : EReal) := by
  pointwise [onePiece]

theorem valAt_row (vp : FVec Ideal S1024x2048 .bf16) (h : Fin 16) (e : Fin 64) (s : Fin 2048) :
    valAt vp (at80 h ⟨e.val, by omega⟩) s = vp (ix2 (at64 h e) s) := by
  have hm : (80 * h.val + e.val) % 80 = e.val := by omega
  have hd : (80 * h.val + e.val) / 80 = h.val := by omega
  have hlt : (at80 h ⟨e.val, by omega⟩).val % 80 < 64 := by show (80 * h.val + e.val) % 80 < 64; omega
  unfold valAt
  rw [dif_pos hlt]
  refine congrArg (fun r => vp (ix2 r s)) (Fin.ext ?_)
  show 64 * ((80 * h.val + e.val) / 80) + (80 * h.val + e.val) % 80 = 64 * h.val + e.val
  rw [hm, hd]

theorem valAt_one (vp : FVec Ideal S1024x2048 .bf16) (h : Fin 16) (e : Fin 16) (s : Fin 2048) :
    valAt vp (at80 h ⟨64 + e.val, by omega⟩) s = 1 := by
  unfold valAt
  refine dif_neg ?_
  show ¬ (80 * h.val + (64 + e.val)) % 80 < 64
  omega

/-- The scratch the thirty-two stores leave, read at a row. -/
theorem vals_apply (vp : FVec Ideal S1024x2048 .bf16) (r : Fin 1280) (s : Fin 2048) : View.canon (valStores vp) (ix2 r s) = valAt vp r s := by
  refine View.canon_apply_of_pieces (Val := Elt Ideal) (S := S1280x2048) (e := .bf16) (fun y => valAt vp (y 0) (y 1)) _ ?_ (ix2 r s) ?_
  · intro p hp x
    obtain ⟨h, -, hp⟩ := List.mem_flatMap.mp hp
    rcases List.mem_cons.mp hp with rfl | hp
    · refine of_pairs (fun x : S16x2048.Idx => (onePiece (F := Ideal) h).2 x = valAt vp ((onePiece (F := Ideal) h).1.emb x 0)
        ((onePiece (F := Ideal) h).1.emb x 1)) (fun e s => ?_) x
      have he : (onePiece (F := Ideal) h).1.emb (ix2 e s) = ix2 (at80 h ⟨64 + e.val, by omega⟩) s := emb_ones h e s
      exact ((onePiece_apply h e s).trans (valAt_one vp h e s).symm).trans (congrArg (fun y : S1280x2048.Idx => valAt vp (y 0) (y 1)) he.symm)
    · obtain rfl := List.mem_singleton.mp hp
      refine of_pairs (fun x : S64x2048.Idx => (valPiece vp h).2 x = valAt vp ((valPiece vp h).1.emb x 0) ((valPiece vp h).1.emb x 1)) (fun e s => ?_) x
      have he : (valPiece vp h).1.emb (ix2 e s) = ix2 (at80 h ⟨e.val, by omega⟩) s := emb_rows h e s
      exact ((valPiece_apply vp h e s).trans (valAt_row vp h e s).symm).trans (congrArg (fun y : S1280x2048.Idx => valAt vp (y 0) (y 1)) he.symm)
  · have hr : r.val = 80 * (r.val / 80) + r.val % 80 := by omega
    by_cases h64 : r.val % 80 < 64
    · refine ⟨valPiece vp ⟨r.val / 80, by omega⟩, List.mem_flatMap.mpr ⟨_, mem_order _, List.mem_cons_of_mem _ (List.mem_singleton_self _)⟩, ?_⟩
      have he : (valPiece vp ⟨r.val / 80, by omega⟩).1.emb (ix2 (⟨r.val % 80, h64⟩ : Fin 64) s) = ix2 r s :=
        (emb_rows _ _ s).trans (congrArg (fun r => ix2 r s) (Fin.ext hr.symm))
      rw [← he]
      exact emb_mem _ _
    · refine ⟨onePiece ⟨r.val / 80, by omega⟩, List.mem_flatMap.mpr ⟨_, mem_order _, List.mem_cons_self⟩, ?_⟩
      have he : (onePiece (F := Ideal) ⟨r.val / 80, by omega⟩).1.emb (ix2 (⟨r.val % 80 - 64, by omega⟩ : Fin 16) s) = ix2 r s :=
        (emb_ones _ _ s).trans (congrArg (fun r => ix2 r s) (Fin.ext (by show 80 * (r.val / 80) + (64 + (r.val % 80 - 64)) = r.val; omega)))
      rw [← he]
      exact emb_mem _ _

/-- The opening point's values at a head's row. -/
theorem valsOf_row (x1 : Vec Ideal S1x2048x1024 .f32) (x4 : Vec Ideal S1024x1024 .bf16) (h : Fin 16) (e : Fin 64) (s : Fin 2048) :
    valsOf x1 x4 (ix2 (at80 h ⟨e.val, by omega⟩) s) = k0_pay4 x1 x4 (ix2 (at64 h e) s) :=
  (vals_apply _ _ _).trans (valAt_row _ h e s)

/-- The opening point's ones under them. -/
theorem valsOf_one (x1 : Vec Ideal S1x2048x1024 .f32) (x4 : Vec Ideal S1024x1024 .bf16) (h : Fin 16) (s : Fin 2048) :
    valsOf x1 x4 (ix2 (at80 h 64) s) = (1 : EReal) :=
  (vals_apply _ _ _).trans (valAt_one _ h 0 s)

end Cert.KernelIdeal.Body

end
-- ==== Proof.BlockValue.lean ====
/- The block a grid point finishes is its rows of the shared mathematics (`body_apply`). -/
module

public import proofs.«01_k».proof.Proof.SlabRead

@[expose] public section

set_option maxRecDepth 16384

noncomputable section

namespace Cert.KernelIdeal.Body

open Cert.KernelIdeal Cert.KernelIdeal.Gen Idealize.ShloMosaic Idealize.ShloMosaic.TcCoe Idealize.SL.Sem
open scoped BigOperators

/-- A row's head, row by row. -/
theorem at_row (r : Fin 1024) (e : Fin 64) : at64 (headIx r) e = Attn.row r e := by
  apply Fin.ext; show 64 * (r.val / 64) + e.val = r.val / 64 * 64 + e.val; omega
/-- The first half of the keys. -/
theorem col_lo (s : Fin 1024) : col 0 s = Attn.lo s := by
  apply Fin.ext; show 1024 * 0 + s.val = s.val; omega
/-- The second half of the keys. -/
theorem col_hi (s : Fin 1024) : col 1 s = Attn.hi s := by
  apply Fin.ext; show 1024 * 1 + s.val = 1024 + s.val; omega

variable {x0 : Vec Ideal S1x512x1024 .f32} {x1 : Vec Ideal S1x2048x1024 .f32} {x2 : Vec Ideal S1024x1024 .f32} {x3 x4 x5 : Vec Ideal S1024x1024 .bf16}
  {x6 : Vec Ideal S1x1024 .f32} {D E : Attn.Mat 2048 1024} {Wq Wk Wv Wo : Attn.Mat 1024 1024} {g : Fin 1024 → EReal} {i : Fin 512} {i' : Fin 2048}

/-- The queries of a block's row. -/
theorem queries_eq (hD : ∀ k, x0 (ix3 0 i k) = D i' k) (hq : ∀ r k, x2 (ix2 r k) = Wq r k) (r : Fin 1024) :
    k0_pay42 x0 x2 (ix2 r i) = Attn.kerQ D Wq i' r := by
  rw [queries_apply]
  unfold Attn.kerQ
  exact Finset.sum_congr rfl fun k _ => by rw [hD k, hq r k]

/-- The carried keys. -/
theorem keys_eq (hE : ∀ s k, x1 (ix3 0 s k) = E s k) (hk : ∀ r k, x3 (ix2 r k) = Wk r k) (r : Fin 1024) (s : Fin 2048) :
    k0_pay3 x1 x3 (ix2 r s) = Attn.kerKV E Wk s r := by
  rw [keys_apply]
  unfold Attn.kerKV
  exact Finset.sum_congr rfl fun k _ => by rw [hE s k, hk r k]

/-- The carried values. -/
theorem values_eq (hE : ∀ s k, x1 (ix3 0 s k) = E s k) (hv : ∀ r k, x4 (ix2 r k) = Wv r k) (r : Fin 1024) (s : Fin 2048) :
    k0_pay4 x1 x4 (ix2 r s) = Attn.kerKV E Wv s r := by
  rw [values_apply]
  unfold Attn.kerKV
  exact Finset.sum_congr rfl fun k _ => by rw [hE s k, hv r k]

/-- The weight of a key, half `c`. -/
theorem weight_eq (hD : ∀ k, x0 (ix3 0 i k) = D i' k) (hE : ∀ s k, x1 (ix3 0 s k) = E s k) (hq : ∀ r k, x2 (ix2 r k) = Wq r k)
    (hk : ∀ r k, x3 (ix2 r k) = Wk r k) (r : Fin 1024) (c : Fin 2) (s : Fin 1024) :
    Ideal.exp2 (∑ e : Fin 64, headQ (k0_pay42 x0 x2) (headIx r) (ix2 e i) * headK (k0_pay3 x1 x3) (headIx r) c (ix2 e s))
      = Attn.kerP D E Wq Wk i' r (col c s) := by
  unfold Attn.kerP
  refine congrArg Ideal.exp2 (Finset.sum_congr rfl fun e _ => ?_)
  rw [headQ_apply, headK_apply, at_row, queries_eq hD hq, keys_eq hE hk]

/-- The attention output of a block's row. -/
theorem out_eq (hD : ∀ k, x0 (ix3 0 i k) = D i' k) (hE : ∀ s k, x1 (ix3 0 s k) = E s k) (hq : ∀ r k, x2 (ix2 r k) = Wq r k)
    (hk : ∀ r k, x3 (ix2 r k) = Wk r k) (hv : ∀ r k, x4 (ix2 r k) = Wv r k) (r : Fin 1024) :
    attended (k0_pay42 x0 x2) (k0_pay3 x1 x3) (valsOf x1 x4) (ix2 r i) = Attn.kerO D E Wq Wk Wv i' r := by
  rw [attended_apply]
  unfold outAt
  rw [headOf_apply]
  have hV : ∀ (c : Fin 2) (s : Fin 1024), headV (valsOf x1 x4) (headIx r) c (ix2 (⟨(rowIx r).val, by omega⟩ : Fin 80) s) = Attn.kerKV E Wv (col c s) r := by
    intro c s
    rw [headV_apply, valsOf_row, at_headIx, values_eq hE hv]
  have h1 : ∀ (c : Fin 2) (s : Fin 1024), headV (valsOf x1 x4) (headIx r) c (ix2 (64 : Fin 80) s) = (1 : EReal) := by
    intro c s
    rw [headV_apply, valsOf_one]
  simp only [hV, h1, weight_eq hD hE hq hk, one_mul, col_lo, col_hi]
  rfl

/-- **The block a grid point finishes**, read at a row and a column: the kernel's batch entry there. -/
theorem body_apply (hD : ∀ k, x0 (ix3 0 i k) = D i' k) (hE : ∀ s k, x1 (ix3 0 s k) = E s k) (hq : ∀ r k, x2 (ix2 r k) = Wq r k)
    (hk : ∀ r k, x3 (ix2 r k) = Wk r k) (hv : ∀ r k, x4 (ix2 r k) = Wv r k) (ho : ∀ r k, x5 (ix2 r k) = Wo r k) (hg : ∀ j, x6 (ix2 0 j) = g j)
    {eps : ℝ} (h1024 : Ideal.ofBits .f32 0x44800000#32 = ((1024 : ℝ) : EReal)) (heps : Ideal.ofBits .f32 0x358637BD#32 = (eps : EReal)) (j : Fin 1024) :
    body x0 x2 x5 x6 (k0_pay3 x1 x3) (valsOf x1 x4) (ix3 0 i j) = Attn.kerOut D E Wq Wk Wv Wo g eps i' j := by
  have hy : ∀ j, kerRow (k0_pay41 x0) (attended (k0_pay42 x0 x2) (k0_pay3 x1 x3) (valsOf x1 x4)) x5 (ix2 i j) = Attn.kerY D E Wq Wk Wv Wo i' j := by
    intro j
    rw [kerRow_apply, input_apply, hD j]
    unfold Attn.kerY
    refine congrArg (· + D i' j) (Finset.sum_congr rfl fun r _ => ?_)
    rw [out_eq hD hE hq hk hv, ho j r]
  unfold body
  rw [finish_apply, pay72_eq, kerScale_apply, gains_apply, hg j, h1024, heps]
  simp only [hy]
  rfl

end Cert.KernelIdeal.Body

end
-- ==== Proof.RefRead.lean ====
/- The reference's @main read at an index, one layer of arrays at a time: each layer is named, `layers` says that their
   composition is the term the run states, and each is read by its own small lemma from the layer below. -/
module

public import proofs.«01_k».proof.Proof.Gen.ReferenceIdeal.Run
public import proofs.«01_k».proof.Proof.Attn
public import Idealize.ShloMosaic.Lib.Pointwise
public import Idealize.ShloMosaic.Lib.Tactic.CleanTypes

@[expose] public section

set_option maxRecDepth 16384

noncomputable section

namespace Cert.ReferenceIdeal.Layers

open Cert.ReferenceIdeal Cert.ReferenceIdeal.Gen Cert.ReferenceIdeal.Value Idealize.ShloMosaic Idealize.ShloMosaic.TcCoe Idealize.SL.Sem
open scoped BigOperators

section

variable {F : FTy → Type} [FloatOps F]

/-- A projection: the rows of `X` times the rows of `W`. -/
def proj (X : FVec F S4x2048x1024 .f32) (W : FVec F S1024x1024 .f32) : FVec F S4x2048x1024 .f32 :=
  Host.dotGeneral dot_S4x2048x1024_S1024x1024_S4x2048x1024_2_0_01_1_n_n none X
    (transpose S1024x1024 [1, 0] W transposes_S1024x1024_S1024x1024_1_0)

/-- A projection's columns cut into heads: batch, head, position, feature. -/
def cut (x : FVec F S4x2048x1024 .f32) : FVec F S4x16x2048x64 .f32 :=
  transpose S4x16x2048x64 [0, 2, 1, 3] (shapeCast _ x shapeCasts_S4x2048x1024_S4x2048x16x64)
    transposes_S4x2048x16x64_S4x16x2048x64_0_2_1_3

/-- A projection, cut into heads. -/
def heads (X : FVec F S4x2048x1024 .f32) (W : FVec F S1024x1024 .f32) : FVec F S4x16x2048x64 .f32 := cut (proj X W)

/-- The scaled scores: batch, head, query, key. -/
def scores (q k : FVec F S4x16x2048x64 .f32) : FVec F S4x16x2048x2048 .f32 :=
  mulf (Host.dotGeneral dot_S4x16x2048x64_S4x16x2048x64_S4x16x2048x2048_3_3_2_2_01_01 none q k)
    (broadcastInDim S4x16x2048x2048 ![] bcast_S_S4x16x2048x2048 (constant S_ .f32 0x3E000000#32))

/-- The largest score of each query. -/
def largest (t : FVec F S4x16x2048x2048 .f32) : FVec F S4x16x2048 .f32 :=
  maximumf (broadcastInDim S4x16x2048 ![] bcast_S_S4x16x2048 (constant S_ .f32 0xFF800000#32))
    (Host.reduce FloatOps.maximumf t (constant S_ .f32 0xFF800000#32) reducesTo_S4x16x2048x2048_S4x16x2048_d3 h_S_)

/-- The exponentials of the scores with the largest taken off. -/
def exps (t : FVec F S4x16x2048x2048 .f32) (m : FVec F S4x16x2048 .f32) : FVec F S4x16x2048x2048 .f32 :=
  Host.exp (subf t (broadcastInDim S4x16x2048x2048 ![0, 1, 2, 3] bcast_S4x16x2048x1_S4x16x2048x2048_0_1_2_3
    (broadcastInDim S4x16x2048x1 ![0, 1, 2] bcast_S4x16x2048_S4x16x2048x1_0_1_2 m)))

/-- The attention output, the heads side by side again. -/
def attend (e : FVec F S4x16x2048x2048 .f32) (v : FVec F S4x16x2048x64 .f32) : FVec F S4x2048x1024 .f32 :=
  shapeCast _ (transpose S4x2048x16x64 [0, 2, 1, 3] (Host.dotGeneral dot_S4x16x2048x2048_S4x16x2048x64_S4x16x2048x64_3_2_2_3_01_01 none
    (Host.divf e (broadcastInDim S4x16x2048x2048 ![0, 1, 2, 3] bcast_S4x16x2048x1_S4x16x2048x2048_0_1_2_3
      (broadcastInDim S4x16x2048x1 ![0, 1, 2] bcast_S4x16x2048_S4x16x2048x1_0_1_2
        (Host.reduceAdd e (constant S_ .f32 0x00000000#32) reducesTo_S4x16x2048x2048_S4x16x2048_d3 h_S_)))) v)
    transposes_S4x16x2048x64_S4x2048x16x64_0_2_1_3) shapeCasts_S4x2048x16x64_S4x2048x1024

/-- The row before the scaling: the input plus the output projection. -/
def rows (X o : FVec F S4x2048x1024 .f32) (W : FVec F S1024x1024 .f32) : FVec F S4x2048x1024 .f32 :=
  addf X (Host.dotGeneral dot_S4x2048x1024_S1024x1024_S4x2048x1024_2_0_01_1_n_n none o
    (transpose S1024x1024 [1, 0] W transposes_S1024x1024_S1024x1024_1_0))

/-- The scaling of each row by its root mean square and by the weights. -/
def scaling (y : FVec F S4x2048x1024 .f32) (g : FVec F S1024 .f32) : FVec F S4x2048x1024 .f32 :=
  mulf (mulf y (broadcastInDim S4x2048x1024 ![0, 1, 2] bcast_S4x2048x1_S4x2048x1024_0_1_2
    (Host.rsqrt (addf (Host.divf (broadcastInDim S4x2048x1 ![0, 1] bcast_S4x2048_S4x2048x1_0_1
        (Host.reduceAdd (mulf y y) (constant S_ .f32 0x00000000#32) reducesTo_S4x2048x1024_S4x2048_d2 h_S_))
      (broadcastInDim S4x2048x1 ![] bcast_S_S4x2048x1 (constant S_ .f32 0x44800000#32)))
      (broadcastInDim S4x2048x1 ![] bcast_S_S4x2048x1 (constant S_ .f32 0x358637BD#32))))))
    (broadcastInDim S4x2048x1024 ![0, 1, 2] bcast_S1x1x1024_S4x2048x1024_0_1_2
      (broadcastInDim S1x1x1024 ![2] bcast_S1024_S1x1x1024_2 g))

/-- The reference's result as a composition of the layers. -/
def whole (D E : FVec F S4x2048x1024 .f32) (Wq Wk Wv Wo : FVec F S1024x1024 .f32) (g : FVec F S1024 .f32) : FVec F S4x2048x1024 .f32 :=
  scaling (rows D (attend (exps (scores (heads D Wq) (heads E Wk)) (largest (scores (heads D Wq) (heads E Wk)))) (heads E Wv)) Wo) g

/-- The term the run states is that composition of its arguments. -/
theorem layers (m : (ℓ : Loc nD τ sig) → Buf (Elt F) ℓ) (c : Dev nD) :
    res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  show res_main_v44 m c = _
  unfold res_main_v44 whole scaling rows attend exps largest scores heads cut proj
  rfl

end

/-- The host's maximum over the last of four axes, from any initial value, at an index: the fold of `max` over that
    axis. The extents are variables, so nothing here enumerates them. -/
theorem reduce_max_last {A B N K : ℕ} (t : FVec Ideal (⟨4, ![A, B, N, K]⟩ : Shape) .f32) (z : FVec Ideal S_ .f32)
    (h' : (⟨4, ![A, B, N, K]⟩ : Shape).ReducesTo [3] (⟨3, ![A, B, N]⟩ : Shape))
    (hr : (⟨4, ![A, B, N, K]⟩ : Shape).Reduces [3] (⟨3, ![A, B, N]⟩ : Shape)) (hu : 0 < S_.numel)
    (b : Fin A) (h : Fin B) (i : Fin N) :
    Host.reduce FloatOps.maximumf t z h' hu (ix3 b h i)
      = Finset.fold (max : EReal → EReal → EReal) (z (Shape.Idx.first hu)) (fun s : Fin K => t (ix4 b h i s)) Finset.univ := by
  rw [Host.reduce_eq_fold_single FloatOps.maximumf t z h' hr hu]
  have hl : ∀ s : Fin K, hr.lift (ix3 b h i) s = ix4 b h i s := fun s => by
    funext c; apply Fin.ext
    fin_cases c <;> rfl
  have hf : (t ∘ hr.lift (ix3 b h i)) = fun s : Fin K => t (ix4 b h i s) := funext fun s => congrArg t (hl s)
  exact congrArg (fun f => Finset.fold (max : EReal → EReal → EReal) (z (Shape.Idx.first hu)) f (Finset.univ : Finset (Fin K))) hf

/-- The greater of two arrays, at an index. -/
theorem max_apply (x y : FVec Ideal S4x16x2048 .f32) (j : S4x16x2048.Idx) : maximumf x y j = max (x j : EReal) (y j) := rfl

/-- The constant spread over the queries, at an index. -/
theorem bottom_apply (j : S4x16x2048.Idx) :
    broadcastInDim S4x16x2048 ![] bcast_S_S4x16x2048 (constant (F := Ideal) S_ .f32 0xFF800000#32) j = Ideal.ofBits .f32 0xFF800000#32 := rfl

/-- The scores reduce to one value a query. -/
theorem reduces_last : S4x16x2048x2048.Reduces [3] S4x16x2048 := by decide

variable (b : Fin 4) (h : Fin 16) (i : Fin 2048)

/-- A projection at an index. -/
theorem proj_apply (X : FVec Ideal S4x2048x1024 .f32) (W : FVec Ideal S1024x1024 .f32) (r : Fin 1024) :
    proj X W (ix3 b i r) = ∑ k : Fin 1024, X (ix3 b i k) * W (ix2 r k) := by
  pointwise [proj]

/-- Positions and heads exchanged. -/
theorem swap_apply (x : FVec Ideal S4x2048x16x64 .f32) (e : Fin 64) :
    transpose S4x16x2048x64 [0, 2, 1, 3] x transposes_S4x2048x16x64_S4x16x2048x64_0_2_1_3 (ix4 b h i e) = x (ix4 b i h e) := by
  pointwise

/-- A row of columns read as heads. -/
theorem split_apply (x : FVec Ideal S4x2048x1024 .f32) (e : Fin 64) :
    shapeCast S4x2048x16x64 x shapeCasts_S4x2048x1024_S4x2048x16x64 (ix4 b i h e) = x (ix3 b i (⟨h.val * 64 + e.val, by omega⟩ : Fin 1024)) := by
  pointwise

/-- A projection's head at an index. -/
theorem cut_apply (x : FVec Ideal S4x2048x1024 .f32) (e : Fin 64) :
    cut x (ix4 b h i e) = x (ix3 b i (⟨h.val * 64 + e.val, by omega⟩ : Fin 1024)) :=
  (swap_apply b h i _ e).trans (split_apply b h i x e)

/-- Feature `e` of head `h` is row `64 h + e` of the weights against the position. -/
theorem heads_apply (X : FVec Ideal S4x2048x1024 .f32) (W : FVec Ideal S1024x1024 .f32) (e : Fin 64) :
    heads X W (ix4 b h i e) = ∑ k : Fin 1024, X (ix3 b i k) * W (ix2 (⟨h.val * 64 + e.val, by omega⟩ : Fin 1024) k) :=
  (cut_apply b h i (proj X W) e).trans (proj_apply b i X W _)

/-- A score at an index. -/
theorem scores_apply (q k : FVec Ideal S4x16x2048x64 .f32) (s : Fin 2048) :
    scores q k (ix4 b h i s) = (∑ e : Fin 64, q (ix4 b h i e) * k (ix4 b h s e)) * Ideal.ofBits .f32 0x3E000000#32 := by
  pointwise [scores]

/-- The largest score of a query, at an index. -/
theorem largest_apply (t : FVec Ideal S4x16x2048x2048 .f32) :
    largest t (ix3 b h i) = max (Ideal.ofBits .f32 0xFF800000#32) (Finset.fold max (Ideal.ofBits .f32 0xFF800000#32) (fun s : Fin 2048 => t (ix4 b h i s)) Finset.univ) := by
  unfold largest
  rw [max_apply, bottom_apply]
  rw [reduce_max_last t (constant (F := Ideal) S_ .f32 0xFF800000#32) reducesTo_S4x16x2048x2048_S4x16x2048_d3 reduces_last h_S_ b h i]
  rfl

/-- An exponential at an index. -/
theorem exps_apply (t : FVec Ideal S4x16x2048x2048 .f32) (m : FVec Ideal S4x16x2048 .f32) (s : Fin 2048) :
    exps t m (ix4 b h i s) = Ideal.exp (t (ix4 b h i s) - m (ix3 b h i)) := by
  pointwise [exps]

/-- The attention output at an index: column `r` lies in head `r / 64`, feature `r % 64`. -/
theorem attend_apply (e : FVec Ideal S4x16x2048x2048 .f32) (v : FVec Ideal S4x16x2048x64 .f32) (r : Fin 1024) :
    attend e v (ix3 b i r) = ∑ s : Fin 2048, Ideal.div (e (ix4 b (⟨r.val / 64, by omega⟩ : Fin 16) i s)) (∑ s' : Fin 2048, e (ix4 b (⟨r.val / 64, by omega⟩ : Fin 16) i s'))
      * v (ix4 b (⟨r.val / 64, by omega⟩ : Fin 16) s (⟨r.val % 64, by omega⟩ : Fin 64)) := by
  pointwise [attend]

/-- A row before the scaling, at an index. -/
theorem rows_apply (X o : FVec Ideal S4x2048x1024 .f32) (W : FVec Ideal S1024x1024 .f32) (j : Fin 1024) :
    rows X o W (ix3 b i j) = X (ix3 b i j) + ∑ r : Fin 1024, o (ix3 b i r) * W (ix2 j r) := by
  pointwise [rows]

/-- A scaled row at an index. -/
theorem scaling_apply (y : FVec Ideal S4x2048x1024 .f32) (g : FVec Ideal S1024 .f32) (j : Fin 1024) :
    scaling y g (ix3 b i j) = y (ix3 b i j) * Ideal.rsqrt (Ideal.div (∑ k : Fin 1024, y (ix3 b i k) * y (ix3 b i k)) (Ideal.ofBits .f32 0x44800000#32)
      + Ideal.ofBits .f32 0x358637BD#32) * g (ix1 j) := by
  pointwise [scaling]

/-- A batch entry of a stack of matrices. -/
abbrev entry (X : FVec Ideal S4x2048x1024 .f32) (b : Fin 4) : Attn.Mat 2048 1024 := fun i k => X (ix3 b i k)
/-- A square matrix by its two coordinates. -/
abbrev mat (W : FVec Ideal S1024x1024 .f32) : Attn.Mat 1024 1024 := fun r k => W (ix2 r k)

/-- The pattern the scores are scaled by is an eighth. -/
theorem bits_eighth : Ideal.ofBits .f32 0x3E000000#32 = ((1 / 8 : ℝ) : EReal) := by
  simp [Ideal.ofBits, Ideal.ieee, -EReal.coe_mul]; norm_num
/-- The pattern the maximum starts from is minus infinity. -/
theorem bits_bot : Ideal.ofBits .f32 0xFF800000#32 = ⊥ := by
  simp [Ideal.ofBits, Ideal.ieee]
/-- The pattern of the length of a row. -/
theorem bits_1024 : Ideal.ofBits .f32 0x44800000#32 = ((1024 : ℝ) : EReal) := by
  simp [Ideal.ofBits, Ideal.ieee, -EReal.coe_mul]; norm_num
/-- The pattern added under the root is a real. -/
theorem bits_eps : ∃ eps : ℝ, Ideal.ofBits .f32 0x358637BD#32 = (eps : EReal) := by
  simp only [Ideal.ofBits, Ideal.ieee]
  rw [if_neg (by decide), if_neg (by decide)]
  exact ⟨_, rfl⟩

/-- **The reference's result at an index** is `refOut` of the batch entry. -/
theorem whole_apply {eps : ℝ} (he : Ideal.ofBits .f32 0x358637BD#32 = (eps : EReal)) (D E : FVec Ideal S4x2048x1024 .f32)
    (Wq Wk Wv Wo : FVec Ideal S1024x1024 .f32) (g : FVec Ideal S1024 .f32) (j : Fin 1024) :
    whole D E Wq Wk Wv Wo g (ix3 b i j)
      = Attn.refOut (entry D b) (entry E b) (mat Wq) (mat Wk) (mat Wv) (mat Wo) (fun j => g (ix1 j)) eps i j := by
  have hrow : ∀ r : Fin 1024, (⟨r.val / 64 * 64 + r.val % 64, by omega⟩ : Fin 1024) = r := fun r => Fin.ext (by simp only; omega)
  simp only [whole, scaling_apply, rows_apply, attend_apply, exps_apply, largest_apply, scores_apply, heads_apply, he,
    bits_eighth, bits_bot, bits_1024, hrow]
  rfl

end Cert.ReferenceIdeal.Layers

end
-- ==== Proof.Array.lean ====
/- The array the kernel leaves, read at an index off the arguments (`array_apply`). -/
module

public import proofs.«01_k».proof.Proof.Carry
public import proofs.«01_k».proof.Proof.BlockValue
public import proofs.«01_k».proof.Proof.RefRead

@[expose] public section

set_option maxRecDepth 16384

noncomputable section

namespace Cert.KernelIdeal.Array

open Cert.KernelIdeal Cert.KernelIdeal.Gen Cert.KernelIdeal.Body Cert.KernelIdeal.Blocks Cert.KernelIdeal.Carry Idealize.ShloMosaic
  Idealize.ShloMosaic.TcCoe Idealize.SL.Sem
open Cert.ReferenceIdeal.Layers (entry mat bits_1024)

variable (m : (ℓ : Loc nD τ sig) → Buf (Elt Ideal) ℓ) (c : Dev nD)

/-- The point that finishes row `i` of batch entry `b`. -/
def pointOf (b : Fin 4) (i : Fin 2048) : Fin cfg0.N := ⟨4 * b.val + i.val / 512, lt_of_lt_of_eq (by omega) N_0.symm⟩

/-- It belongs to the batch entry. -/
theorem batch_pointOf (b : Fin 4) (i : Fin 2048) : batch (pointOf b i) = b := by
  apply Fin.ext; show (4 * b.val + i.val / 512) / 4 = b.val; omega
/-- The row is in its block. -/
theorem query_pointOf (b : Fin 4) (i : Fin 2048) : query (pointOf b i) (⟨i.val % 512, by omega⟩ : Fin 512) = i := by
  apply Fin.ext; show 512 * ((4 * b.val + i.val / 512) % 4) + i.val % 512 = i.val; omega

/-- The array at an index is its point's block at its place there. -/
theorem array_block (b : Fin 4) (i : Fin 2048) (j : Fin 1024) :
    Value.G7 m c (ix3 b i j) = blockAt m c (pointOf b i) (ix3 0 (⟨i.val % 512, by omega⟩ : Fin 512) j) := by
  have hp : Value.pt7Of (ix3 b i j) = (pointOf b i).val := by
    show 4 * (b.val / 1 - 0) + 1 * (i.val / 512 - 0) + 1 * (j.val / 1024 - 0) = 4 * b.val + i.val / 512
    omega
  have hl : Value.loc7Of (ix3 b i j) = ix3 0 (⟨i.val % 512, by omega⟩ : Fin 512) j := by
    funext a
    apply Fin.ext
    match a with
    | ⟨0, _⟩ => show b.val % 1 = 0; omega
    | ⟨1, _⟩ => show i.val % 512 = i.val % 512; rfl
    | ⟨2, _⟩ => show j.val % 1024 = j.val; omega
  unfold Value.G7
  rw [dif_pos (by rw [hp]; exact (pointOf b i).isLt), hl, Value.fold0_congr m c _ _ (pointOf b i).val (by have := (pointOf b i).isLt; omega) hp,
    ← Value.outsAt0_sweep m c (pointOf b i).val (pointOf b i).isLt, carried]

/-- **The kernel's result at an index** is `kerOut` of the batch entry. -/
theorem array_apply {eps : ℝ} (he : Ideal.ofBits .f32 0x358637BD#32 = (eps : EReal)) (b : Fin 4) (i : Fin 2048) (j : Fin 1024) :
    Value.G7 m c (ix3 b i j)
      = Attn.kerOut (entry (m ((c : Thread nD τ).loc main_arg0)) b) (entry (m ((c : Thread nD τ).loc main_arg1)) b)
          (mat (m ((c : Thread nD τ).loc main_arg2))) (mat (m ((c : Thread nD τ).loc main_arg3))) (mat (m ((c : Thread nD τ).loc main_arg4)))
          (mat (m ((c : Thread nD τ).loc main_arg5))) (fun j => m ((c : Thread nD τ).loc main_arg6) (ix1 j)) eps i j := by
  rw [array_block]
  unfold blockAt keysAt valsAt
  refine body_apply (fun k => ?_) (fun s k => ?_) (fun r k => wq_apply m c _ r k) (fun r k => wk_apply m c _ r k) (fun r k => wv_apply m c _ r k)
    (fun r k => wo_apply m c _ r k) (fun j => gain_apply m c _ j) bits_1024 he j
  · rw [dec_apply, batch_pointOf, query_pointOf]
  · rw [enc_apply, batch_pointOf]

end Cert.KernelIdeal.Array

end
-- ==== Proof.Finite.lean ====
/- The precondition decoded: the encoder and the two projections of the scores hold no infinity. -/
module

public import proofs.«01_k».proof.Defs
public import Idealize.ShloMosaic.Lib.ReduceAll
public import Idealize.ShloMosaic.Lib.Pointwise

@[expose] public section

set_option maxRecDepth 16384

noncomputable section

namespace Cert.Pre_finite_keys

open Idealize.ShloMosaic

/-- The side conditions of the precondition. -/
theorem facts : Facts where
  bcast_S_S4x2048x1024 := by decide
  reducesTo_S4x2048x1024_S_d0_1_2 := by decide
  h_S_ := by decide
  bcast_S_S1024x1024 := by decide
  reducesTo_S1024x1024_S_d0_1 := by decide

attribute [local instance] facts

/-- A conjunction of bits is one only when both are. -/
theorem and_split (a b : BitVec 1) (h : a &&& b = 1#1) : a = 1#1 ∧ b = 1#1 := by
  revert a b; decide

/-- A value whose magnitude is below infinity is finite. -/
theorem finite_of_lt {x : EReal} (h : max x (-x) < ⊤) : x ≠ ⊤ ∧ x ≠ ⊥ := by
  refine ⟨fun e => ?_, fun e => ?_⟩ <;> rw [e] at h <;> simp at h

/-- The pattern of infinity. -/
theorem bits_top : Ideal.ofBits .f32 0x7F800000#32 = ⊤ := by
  simp [Ideal.ofBits, Ideal.ieee]

/-- One entry whose magnitude compares below infinity is finite. -/
theorem of_olt {x : EReal} (h : Ideal.cmp .olt (max x (-x)) (Ideal.ofBits .f32 0x7F800000#32) = 1#1) : x ≠ ⊤ ∧ x ≠ ⊥ := by
  rw [bits_top] at h
  refine finite_of_lt ?_
  by_contra hn
  simp [Ideal.cmp, hn] at h

/-- The one index of a scalar. -/
instance : Subsingleton S_.Idx := ⟨fun a b => funext fun i => i.elim0⟩

/-- One conjunct of the precondition: every entry of the array is finite. -/
theorem all_finite {S : Shape} {axes : List (Fin S.rank)} (X : FVec Ideal S .f32) (hb : S_.BroadcastsInDim S (![] : Fin 0 → Fin S.rank)) (hr : S.ReducesTo axes S_)
    (hu : 0 < S_.numel) (j : S_.Idx)
    (h : Host.reduce IntOp.andi (cmpf .olt (Host.absf X) (broadcastInDim S ![] hb (constant S_ .f32 0x7F800000#32))) (constantI S_ 1 1#1) hr hu j = 1#1)
    (i : S.Idx) : (X i : EReal) ≠ ⊤ ∧ (X i : EReal) ≠ ⊥ :=
  of_olt (Host.reduce_andi_all _ _ hr hu j h i)

/-- **The precondition, decoded**: the encoder and the two projections of the scores are finite at every index. -/
theorem decode (D E : FVec Ideal S4x2048x1024 .f32) (Wq Wk Wv Wo : FVec Ideal S1024x1024 .f32) (g : FVec Ideal S1024 .f32)
    (h : fn (F := Ideal) D E Wq Wk Wv Wo g = fun _ => 1#1) :
    (∀ i, (E i : EReal) ≠ ⊤ ∧ (E i : EReal) ≠ ⊥) ∧ (∀ i, (Wq i : EReal) ≠ ⊤ ∧ (Wq i : EReal) ≠ ⊥) ∧ ∀ i, (Wk i : EReal) ≠ ⊤ ∧ (Wk i : EReal) ≠ ⊥ := by
  have h0 := congrFun h (fun i => i.elim0)
  obtain ⟨h1, hk⟩ := and_split _ _ h0
  obtain ⟨he, hq⟩ := and_split _ _ h1
  exact ⟨all_finite E _ _ _ _ he, all_finite Wq _ _ _ _ hq, all_finite Wk _ _ _ _ hk⟩

end Cert.Pre_finite_keys

end
-- ==== Proof.lean ====
module

public import proofs.«01_k».proof.Defs
public import proofs.«01_k».proof.Proof.Gen.Kernel.Frame
public import proofs.«01_k».proof.Proof.Gen.ReferenceIdeal.Run
public import proofs.«01_k».proof.Proof.Array
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs, keeps its arguments and leaves no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named factor: its pattern and the real number it stands for. -/
theorem preserves_Kernel_KernelIdeal : preserves_Kernel_KernelIdeal :=
  IdealRules.named_const.statement Cert.KernelIdeal.κ "scale_log2e" .f32 0x3E38AA3B#32 (((1 / 8) * (Real.log 2)⁻¹ : ℝ) : EReal) rfl

/-- On memories agreeing on the arguments, under the precondition, the reference's array is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Pre_KernelIdeal_finite_keys (hPre_finite_keys := Cert.Pre_finite_keys.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out0 m' c = Cert.KernelIdeal.Value.G7 m c := by
  obtain ⟨eps, he⟩ := Cert.ReferenceIdeal.Layers.bits_eps
  obtain ⟨hE, hq, hk⟩ := Cert.Pre_finite_keys.decode _ _ _ _ _ _ _ (hpre c)
  rw [Cert.ReferenceIdeal.Layers.layers, h0, h1, h2, h3, h4, h5, h6]
  funext y
  have hy : y = ix3 (y 0 : Fin 4) (y 1 : Fin 2048) (y 2 : Fin 1024) := eq_ix3 y
  rw [hy]
  refine (Cert.ReferenceIdeal.Layers.whole_apply (y 0 : Fin 4) (y 1 : Fin 2048) he _ _ _ _ _ _ _ (y 2 : Fin 1024)).trans ?_
  refine Eq.trans ?_ (Cert.KernelIdeal.Array.array_apply m c he (y 0 : Fin 4) (y 1 : Fin 2048) (y 2 : Fin 1024)).symm
  exact (Attn.kerOut_eq_refOut _ _ _ _ _ _ _ (fun s k => hE (ix3 (y 0 : Fin 4) s k)) (fun r k => hq (ix2 r k)) (fun r k => hk (ix2 r k)) eps _ _).symm

/-- **The kernel and the reference end with equal results** over the extended reals, under the precondition. -/
theorem algebraic : algebraic_KernelIdeal_ReferenceIdeal_pre_finite_keys (hPre_finite_keys := Cert.Pre_finite_keys.facts) := by
  intro m g m' g' hpre hargs
  refine ⟨fun c => Cert.KernelIdeal.Value.G7 m c, Cert.KernelIdeal.Value.run (F := Ideal) m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6⟩ := hargs c
  exact results_eq m m' c hpre h0 h1 h2 h3 h4 h5 h6

theorem claim : Cert.Claim :=
  ⟨Cert.Kernel.Gen.facts, Cert.KernelIdeal.Gen.facts, Cert.ReferenceIdeal.Gen.facts, Cert.Pre_finite_keys.facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial, preserves_Kernel_KernelIdeal, algebraic⟩

end Cert.Proof

end
